-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v18) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S16x4096x1024 : Shape := ⟨3, ![16, 4096, 1024]⟩
abbrev S16x4096 : Shape := ⟨2, ![16, 4096]⟩
abbrev S65536x1024 : Shape := ⟨2, ![65536, 1024]⟩
abbrev S65536 : Shape := ⟨1, ![65536]⟩
abbrev S16x1024 : Shape := ⟨2, ![16, 1024]⟩
abbrev S4096 : Shape := ⟨1, ![4096]⟩
abbrev S1x1024 : Shape := ⟨2, ![1, 1024]⟩
abbrev S_ : Shape := ⟨0, ![]⟩
abbrev S16 : Shape := ⟨1, ![16]⟩
abbrev S1 : Shape := ⟨1, ![1]⟩

abbrev nBuf : Table → Nat
  | .hbm => 6
  | .local .scVector .vmem => 2
  | _ => 0

abbrev bufTy : (tb : Table) → Fin (nBuf tb) → BufTy
  | .hbm, ⟨0, _⟩ => ⟨S16x4096x1024, .f32⟩
  | .hbm, ⟨1, _⟩ => ⟨S16x4096, .i1⟩
  | .hbm, ⟨2, _⟩ => ⟨S65536x1024, .f32⟩
  | .hbm, ⟨3, _⟩ => ⟨S16x4096, .i32⟩
  | .hbm, ⟨4, _⟩ => ⟨S65536, .i32⟩
  | .hbm, ⟨5, _⟩ => ⟨S16x1024, .f32⟩
  | .local .scVector .vmem, ⟨0, _⟩ => ⟨S4096, .i32⟩
  | .local .scVector .vmem, ⟨1, _⟩ => ⟨S1x1024, .f32⟩
  | _, _ => ⟨S16x4096x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v2_scv : Ref sig .scVector := ⟨.hbm, 4, rfl⟩
abbrev main_v0_scv : Ref sig .scVector := ⟨.hbm, 2, rfl⟩
abbrev main_v3_scv : Ref sig .scVector := ⟨.hbm, 5, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let v3 : BitVec 32 := Scalar.extui v2
  let c0_i32 : BitVec 32 := 0#32
  let v4 : BitVec 1 := Scalar.cmpi .ne v3 c0_i32
  v4

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v5 : BitVec 32 := Scalar.muli v1 c4096_i32
  ![v5.toNat]
@[reducible] def k0_t1_loop : Scf.Loop 32 :=
  let c0_i32_1 : BitVec 32 := 0#32
  let c256_i32 : BitVec 32 := 256#32
  let v7 : BitVec 32 := Scalar.addi c0_i32_1 c256_i32
  let c1_i32 : BitVec 32 := 1#32
  ⟨c0_i32_1, v7, c1_i32⟩
def k0_off2 (k0_t1 : Fin k0_t1_loop.trips) : Fin 1 → Nat :=
  let c0_i32_1 : BitVec 32 := 0#32
  let c1_i32 : BitVec 32 := 1#32
  let arg7 : BitVec 32 := Scf.iv c0_i32_1 c1_i32 k0_t1
  let c16_i32_6 : BitVec 32 := 16#32
  let v18 : BitVec 32 := Scalar.muli arg7 c16_i32_6
  let v19 : Index := Scalar.indexCast v18
  ![v19.toNat]
def k0_off3 (i : grid0.Coords) (v12 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32_5 : BitVec 32 := 4096#32
  let v16 : BitVec 32 := Scalar.muli v1 c4096_i32_5
  let c0_i32_3 : BitVec 32 := 0#32
  let v13 : BitVec 1 := Scalar.cmpi .sgt v12 c0_i32_3
  let c1_i32_4 : BitVec 32 := 1#32
  let v14 : BitVec 32 := Scalar.subi v12 c1_i32_4
  let c4095_i32 : BitVec 32 := 4095#32
  let v15 : BitVec 32 := Scalar.select v13 v14 c4095_i32
  let v17 : BitVec 32 := Scalar.addi v16 v15
  let c0_i32_6_r1 : BitVec 32 := 0#32
  ![v17.toNat, 0]

def k0_chk1 (i : grid0.Coords) (v12 : BitVec 32) : Prop :=
  (∀ (k0_h1 : k0_cond1 i = 1#1), ∀ a, (k0_off3 i v12) a + S1x1024.size a ≤ S65536x1024.size a)
theorem k0_off3_inb : ∀ (i : grid0.Coords) (v12 : BitVec 32) (k0_hw1 : k0_chk1 i v12), ∀ (k0_h1 : k0_cond1 i = 1#1), ∀ a, (k0_off3 i v12) a + S1x1024.size a ≤ S65536x1024.size a := fun i v12 k0_hw1 k0_h1 => k0_hw1 k0_h1

def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16x4096x1024 : Shape := ⟨3, ![16, 4096, 1024]⟩
abbrev S16x4096 : Shape := ⟨2, ![16, 4096]⟩
abbrev S_ : Shape := ⟨0, ![]⟩
abbrev S16 : Shape := ⟨1, ![16]⟩
abbrev S16x1 : Shape := ⟨2, ![16, 1]⟩
abbrev S16x2 : Shape := ⟨2, ![16, 2]⟩
abbrev S16x1024 : Shape := ⟨2, ![16, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096, .i1⟩
  | .hbm, ⟨2, _⟩ => ⟨S16x4096, .i32⟩
  | .hbm, ⟨3, _⟩ => ⟨S_, .i32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S16, .i32⟩
  | .hbm, ⟨9, _⟩ => ⟨S_, .i32⟩
  | .hbm, ⟨10, _⟩ => ⟨S16, .i32⟩
  | .hbm, ⟨11, _⟩ => ⟨S16, .i1⟩
  | .hbm, ⟨12, _⟩ => ⟨S_, .i32⟩
  | .hbm, ⟨13, _⟩ => ⟨S16, .i32⟩
  | .hbm, ⟨14, _⟩ => ⟨S16, .i32⟩
  | .hbm, ⟨15, _⟩ => ⟨S16, .i32⟩
  | .hbm, ⟨16, _⟩ => ⟨S_, .i32⟩
  | .hbm, ⟨17, _⟩ => ⟨S16, .i32⟩
  | .hbm, ⟨18, _⟩ => ⟨S16, .i1⟩
  | .hbm, ⟨19, _⟩ => ⟨S_, .i32⟩
  | .hbm, ⟨20, _⟩ => ⟨S16, .i32⟩
  | .hbm, ⟨21, _⟩ => ⟨S16, .i32⟩
  | .hbm, ⟨22, _⟩ => ⟨S16, .i32⟩
  | .hbm, ⟨23, _⟩ => ⟨S16x1, .i32⟩
  | .hbm, ⟨24, _⟩ => ⟨S16x1, .i32⟩
  | .hbm, ⟨25, _⟩ => ⟨S16x2, .i32⟩
  | .hbm, ⟨26, _⟩ => ⟨S16x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_v11 : Ref sig .tc := ⟨.hbm, 18, rfl⟩
abbrev main_c_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Setup.lean ====
/-
  The kernel's launch as the library's launch theorem sees it, the arrays the kernel works on, and the value it is claimed
  to leave: row `r` of the result is the row of the input that the running count of row `r` of the mask points at.
  Everything is stated over any float values `F`: the kernel moves rows and adds integers, and never computes with a float.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ValueIdxCore
public import Mathlib.Data.BitVec
public import proofs.«01_k».proof.Proof.Gen.KernelIdeal
public import proofs.«01_k».proof.Proof.Gen.KernelIdeal.Skeleton

@[expose] public section

noncomputable section

namespace Cert.Proof.LastRow

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's handshake semaphores are apart from one another and are no scoped allocation. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The input (16 × 4096 rows of 1024), the mask, and the host's intermediate arrays: the input as 65536 rows, the mask's
    bits as words, those words in one line; and the result. -/
abbrev xLoc (d : Dev nD) : Loc nD τ sig := (SparseCore.T d).loc main_arg0
abbrev bLoc (d : Dev nD) : Loc nD τ sig := (SparseCore.T d).loc main_arg1
abbrev rowsLoc (d : Dev nD) : Loc nD τ sig := (SparseCore.T d).loc main_v0
abbrev wideLoc (d : Dev nD) : Loc nD τ sig := (SparseCore.T d).loc main_v1
abbrev maskLoc (d : Dev nD) : Loc nD τ sig := (SparseCore.T d).loc main_v2
abbrev outLoc (d : Dev nD) : Loc nD τ sig := (SparseCore.T d).loc main_v3

/-! ## The value -/

/-- Word `j` of row `r` of the mask laid out in one line. -/
abbrev maskIx (r : Fin 16) (j : Fin 4096) : S65536.Idx := ix1 (n := 65536) ⟨4096 * r.val + j.val, by omega⟩

/-- The sum of row `r` of the mask's words. -/
def total (M : S65536.Idx → BitVec 32) (r : Fin 16) : BitVec 32 := ∑ j : Fin 4096, M (maskIx r j)

/-- The row a count of ones points at: the one before it, and the last row when there is none. -/
def lastIdx (w : BitVec 32) : Fin 4096 := if w.toNat = 0 then ⟨4095, by omega⟩ else ⟨(w.toNat - 1) % 4096, Nat.mod_lt _ (by omega)⟩

/-- The result from the mask's words `M` and the input's 65536 rows `X`. -/
def picked {α : Type} (M : S65536.Idx → BitVec 32) (X : S65536x1024.Idx → α) : S16x1024.Idx → α := fun y =>
  X (ix2 (n0 := 65536) (n1 := 1024) ⟨4096 * (y 0).val + (lastIdx (total M (y 0))).val, by
      have h0 : (y 0).val < 16 := (y 0).isLt
      have h1 := (lastIdx (total M (y 0))).isLt
      omega⟩ (y 1))

/-- The mask's words are its bits. -/
def IsBits (M : S65536.Idx → BitVec 32) : Prop := ∀ i, (M i).toNat ≤ 1

variable (m : (ℓ : Loc nD τ sig) → Buf (Elt F) ℓ)

/-- The input as 65536 rows, and the mask's words in one line: what the host hands the kernel. -/
def Xof (d : Dev nD) : Buf (Elt F) (rowsLoc d) :=
  (shapeCast S65536x1024 (m (xLoc d) : S16x4096x1024.Idx → Elt F .f32) shapeCasts_S16x4096x1024_S65536x1024 : S65536x1024.Idx → Elt F .f32)
def Mof (d : Dev nD) : Buf (Elt F) (maskLoc d) :=
  (shapeCast S65536 (extui 32 (m (bLoc d) : S16x4096.Idx → BitVec 1) natLt_1_32 : S16x4096.Idx → BitVec 32) shapeCasts_S16x4096_S65536 : S65536.Idx → BitVec 32)

/-- The result's contents. -/
def Gof (d : Dev nD) : Buf (Elt F) (outLoc d) := (picked (Mof m d) (Xof m d) : S16x1024.Idx → Elt F .f32)

/-- Every word of the mask is zero or one: it is a widened bit. -/
theorem Mof_isBits (d : Dev nD) : IsBits (Mof m d) := fun i => by
  show ((m (bLoc d) _ : BitVec 1).setWidth 32).toNat ≤ 1
  have h := (m (bLoc d) (Shape.reshapeEquiv shapeCasts_S16x4096_S65536 i) : BitVec 1).isLt
  rw [BitVec.toNat_setWidth]
  exact (Nat.mod_le _ _).trans (by omega)

/-! ## Who works on which row -/

/-- The result's sixteen rows divide among sixteen workers. -/
theorem hdivOut : 16 ∣ S16x1024.size 0 := ⟨1, rfl⟩
/-- Row `r` of the result. -/
abbrev outRow (r : Fin 16) : Rect S16x1024 := Rect.part (s := S16x1024) (a₀ := 0) hdivOut r
abbrev outSet (r : Fin 16) : Finset S16x1024.Idx := (outRow r).set

/-- The row of vector subcore `i` of SparseCore `c`, where `2 i + c < 16`. -/
abbrev rowOf (c i : ℕ) : Fin 16 := ⟨(2 * i + c) % 16, Nat.mod_lt _ (by omega)⟩

/-- What the worker on row `r` is handed: a share of the mask's words, a share of the input's rows, row `r` of the result. -/
def taskIn (d : Dev nD) (r : Fin 16) : sProp 𝕄 :=
  iprop((maskLoc d ↦{Transfers.shareTok fullShare 16 r} Mof m d) ∗ (rowsLoc d ↦{Transfers.shareTok fullShare 16 r} Xof m d)
    ∗ outLoc d ↦[outSet r]{fullShare} m (outLoc d))
/-- What it hands back: row `r` of the result, finished. -/
def taskOut (d : Dev nD) (r : Fin 16) : sProp 𝕄 := iprop(outLoc d ↦[outSet r]{fullShare} Gof m d)

/-- The same for every vector subcore: those past the sixteenth row are handed nothing. -/
def goOf (d : Dev nD) (c i : ℕ) : sProp 𝕄 := if 2 * i + c < 16 then taskIn m d (rowOf c i) else iprop(emp)
def tdOf (d : Dev nD) (c i : ℕ) : sProp 𝕄 := if 2 * i + c < 16 then taskOut m d (rowOf c i) else iprop(emp)

instance taskIn_storable (d : Dev nD) (r : Fin 16) : BI.Storable (upEmb : UEmb _ 𝕄) (taskIn m d r) := by unfold taskIn; infer_instance
instance taskOut_storable (d : Dev nD) (r : Fin 16) : BI.Storable (upEmb : UEmb _ 𝕄) (taskOut m d r) := by unfold taskOut; infer_instance
instance goOf_storable (d : Dev nD) (c i : ℕ) : BI.Storable (upEmb : UEmb _ 𝕄) (goOf m d c i) := by unfold goOf; split <;> infer_instance
instance tdOf_storable (d : Dev nD) (c i : ℕ) : BI.Storable (upEmb : UEmb _ 𝕄) (tdOf m d c i) := by unfold tdOf; split <;> infer_instance

/-- What the one call carries: each SparseCore what its sixteen vector subcores are handed, and back. -/
def P : (K (F := F)).Pay (nD := nD) (Val := Elt F) (Name := ℕ) (U := UU) where
  st := fun q d c => match q with | 0 => bigSep Finset.univ fun i : Fin 16 => goOf m d c.val i.val
  dn := fun q d c => match q with | 0 => bigSep Finset.univ fun i : Fin 16 => tdOf m d c.val i.val
  go := fun q d c i => match q with | 0 => goOf m d c.val i.val
  td := fun q d c i => match q with | 0 => tdOf m d c.val i.val
  x := fun _ _ => iprop(emp)

instance P_storable : (P (F := F) m).IsStorable where
  st q d c := match q with
    | 0 => (inferInstance : BI.Storable (upEmb : UEmb _ 𝕄) (bigSep Finset.univ fun i : Fin 16 => goOf m d c.val i.val))
  dn q d c := match q with
    | 0 => (inferInstance : BI.Storable (upEmb : UEmb _ 𝕄) (bigSep Finset.univ fun i : Fin 16 => tdOf m d c.val i.val))
  go q d c i := match q with | 0 => goOf_storable m d c.val i.val
  td q d c i := match q with | 0 => tdOf_storable m d c.val i.val

end Cert.Proof.LastRow

end
-- ==== Proof.Count.lean ====
/-
  The integer arithmetic of the kernel: sixteen lanes each add up a sixteenth of a row of the mask's words, the running sum
  across the lanes ends at the row's sum, and from that sum the body computes the number of the input row it copies.
-/
module

public import proofs.«01_k».proof.Proof.Setup

@[expose] public section

noncomputable section

namespace Cert.Proof.LastRow

open Cert.KernelIdeal Cert.KernelIdeal.Gen

open Idealize.ShloMosaic
open Idealize.ShloMosaic.ValueIdx (ix1 ix2 ix3)

variable {F : FTy → Type} [FloatOps F]

/-- Word `n` of row `r` of the mask, and zero past the row's end. -/
def wordAt (M : S65536.Idx → BitVec 32) (r : Fin 16) (n : ℕ) : BitVec 32 := if h : n < 4096 then M (maskIx r ⟨n, h⟩) else 0

/-- The sixteen lanes after `k` steps: lane `l` holds the sum of the words `16 t + l`, `t < k`. -/
def lanes (M : S65536.Idx → BitVec 32) (r : Fin 16) (k : ℕ) : IVec S16 32 := fun l => ∑ t ∈ Finset.range k, wordAt M r (16 * t + (l 0).val)

/-- The lanes start at zero. -/
theorem lanes_zero (M : S65536.Idx → BitVec 32) (r : Fin 16) : k0_pay1 = lanes M r 0 := by
  funext l; simp [lanes, k0_pay1, broadcast]

/-- Adding the next sixteen words takes the lanes one step on. -/
theorem lanes_succ (M : S65536.Idx → BitVec 32) (r : Fin 16) (k : ℕ) (v : IVec S16 32)
    (hv : ∀ l, v l = wordAt M r (16 * k + (l 0).val)) : k0_pay2 (F := F) (lanes M r k) v = lanes M r (k + 1) := by
  funext l
  show lanes M r k l + v l = _
  unfold lanes
  rw [Finset.sum_range_succ, hv]

/-- The lanes at the end of the row add up to the row. -/
theorem sum_lanes (M : S65536.Idx → BitVec 32) (r : Fin 16) : ∑ l : Fin 16, lanes M r 256 (ix1 l) = total M r := by
  have e : ∀ l : Fin 16, lanes M r 256 (ix1 l) = ∑ t : Fin 256, wordAt M r (16 * t.val + l.val) := fun l =>
    Finset.sum_range (fun t => wordAt M r (16 * t + l.val))
  rw [Finset.sum_congr rfl fun l _ => e l, Finset.sum_comm, ← Fintype.sum_prod_type']
  unfold total
  rw [← Equiv.sum_comp (finProdFinEquiv (m := 256) (n := 16))]
  refine Finset.sum_congr rfl fun p _ => ?_
  have hp : 16 * p.1.val + p.2.val < 4096 := by omega
  unfold wordAt
  rw [dif_pos hp]
  congr 2
  apply Fin.ext
  show 16 * p.1.val + p.2.val = p.2.val + 16 * p.1.val
  omega

/-- Adding fifteen words to a first one is the sum of the sixteen. -/
theorem foldl_sixteen (g : Fin 16 → BitVec 32) :
    List.foldl (fun r k => r + g k) (g 0) [1, 2, 3, 4, 5, 6, 7, 8, 9, 10, 11, 12, 13, 14, 15] = ∑ k : Fin 16, g k := by
  rw [← List.sum_ofFn]
  simp only [List.foldl_cons, List.foldl_nil, List.ofFn_succ, List.ofFn_zero, List.sum_cons, List.sum_nil, add_zero, add_assoc]
  rfl

/-- A running sum of sixteen words ends, in its last place, at their sum. -/
theorem scan_last (v : IVec S16 32) : extractAt ![0] (k0_pay3 v) inpos_S1_p0 = ∑ l : Fin 16, v (ix1 l) := by
  have hl : (List.finRange 16).filter (fun k => decide (0 < k.val ∧ k.val ≤ 15)) = [1, 2, 3, 4, 5, 6, 7, 8, 9, 10, 11, 12, 13, 14, 15] := by decide
  have ho : ∀ k : Fin 16, (Shape.ofLane (d := ![16]) k : S16.Idx) = ix1 k := fun k => by funext a; match a with | ⟨0, _⟩ => rfl
  have hx : extractAt ![0] (k0_pay3 v) inpos_S1_p0 = scan .sum v (ix1 15) := by
    unfold k0_pay3 extractAt extractStridedSlice
    refine congrArg (scan .sum v) (funext fun a => ?_)
    match a with | ⟨0, _⟩ => rfl
  have hs : ∀ g : Fin 16 → BitVec 32, (∀ k : Fin 16, v (Shape.ofLane (d := ![16]) k) = g k) → scan .sum v (ix1 15)
      = ((List.finRange 16).filter fun k => decide (0 < k.val ∧ k.val ≤ 15)).foldl (fun (r : BitVec 32) (k : Fin 16) => r + g k) (g 0) := fun g hg => by
    rw [← funext hg]; unfold scan; rfl
  rw [hx, hs (fun k => v (ix1 k)) (fun k => congrArg v (ho k)), hl]
  exact foldl_sixteen _

/-- What the body extracts after the loop is the row's sum. -/
theorem extract_lanes (M : S65536.Idx → BitVec 32) (r : Fin 16) : extractAt ![0] (k0_pay3 (lanes M r 256)) inpos_S1_p0 = total M r :=
  (scan_last _).trans (sum_lanes M r)

/-- A sum of a row of zeros and ones is at most the row's length. -/
theorem total_le {M : S65536.Idx → BitVec 32} (hM : IsBits M) (r : Fin 16) : (total M r).toNat ≤ 4096 := by
  have hb : ∑ j : Fin 4096, (M (maskIx r j)).toNat ≤ 4096 :=
    (Finset.sum_le_sum fun j _ => hM (maskIx r j)).trans (by simp)
  have : ∀ S : Finset (Fin 4096), (∑ j ∈ S, M (maskIx r j)).toNat ≤ ∑ j ∈ S, (M (maskIx r j)).toNat := fun S => by
    induction S using Finset.cons_induction with
    | empty => simp
    | cons a S ha ih =>
      rw [Finset.sum_cons, Finset.sum_cons, BitVec.toNat_add]
      exact (Nat.mod_le _ _).trans (Nat.add_le_add_left ih _)
  exact (this _).trans hb

/-- From a sum `w ≤ 4096` the body computes the offset of row `4096 r + (w - 1)`, or of the last of those rows when `w = 0`. -/
theorem off3_eq (L : grid0.Coords) (w : BitVec 32) (hw : w.toNat ≤ 4096) :
    k0_off3 L w = ![4096 * (2 * (L 1).val + (L 0).val) + (lastIdx w).val, 0] := by
  have h0 : (L 0).val < 2 := (L 0).isLt
  have h1 : (L 1).val < 16 := (L 1).isLt
  have hl := (lastIdx w).isLt
  have hsel : Scalar.select (Scalar.cmpi .sgt w 0#32) (Scalar.subi w 1#32) 4095#32 = BitVec.ofNat 32 (lastIdx w).val := by
    apply BitVec.eq_of_toNat_eq
    rw [BitVec.toNat_ofNat, Nat.mod_eq_of_lt (show (lastIdx w).val < 2 ^ 32 by omega)]
    have hslt : (0#32 : BitVec 32).slt w = decide (w.toNat ≠ 0) := by
      rw [BitVec.slt_eq_decide, BitVec.toInt_eq_toNat_of_lt (show 2 * w.toNat < 2 ^ 32 by omega)]
      simp only [BitVec.toInt_zero]
      congr 1; simp only [eq_iff_iff]; omega
    show (if BitVec.ofBool ((0#32 : BitVec 32).slt w) = 1 then w - 1#32 else 4095#32).toNat = _
    rw [hslt]
    unfold lastIdx
    by_cases hz : w.toNat = 0
    · simp [hz]
    · rw [if_neg hz]
      simp only [ne_eq, hz, not_false_eq_true, decide_true, BitVec.ofBool_true, ↓reduceIte, BitVec.toNat_sub, BitVec.toNat_ofNat]
      have : w.toNat < 2 ^ 32 := w.isLt
      norm_num
      omega
  show ![(Scalar.addi (Scalar.muli (Scalar.addi (Scalar.muli (BitVec.ofNat 32 (L 1).val) 2#32) (BitVec.ofNat 32 (L 0).val)) 4096#32)
    (Scalar.select (Scalar.cmpi .sgt w 0#32) (Scalar.subi w 1#32) 4095#32)).toNat, 0] = _
  rw [hsel]
  congr 1
  show (((BitVec.ofNat 32 (L 1).val * 2#32 + BitVec.ofNat 32 (L 0).val) * 4096#32) + BitVec.ofNat 32 (lastIdx w).val).toNat = _
  simp only [BitVec.toNat_add, BitVec.toNat_mul, BitVec.toNat_ofNat]
  omega

/-- Those offsets stay inside the input's rows: what the machine asks of the sum. -/
theorem chk_of_le (L : grid0.Coords) (w : BitVec 32) (hr : 2 * (L 1).val + (L 0).val < 16) (hw : w.toNat ≤ 4096) : k0_chk1 L w := by
  intro _ a
  rw [off3_eq L w hw]
  have := (lastIdx w).isLt
  match a with
  | ⟨0, _⟩ => show 4096 * (2 * (L 1).val + (L 0).val) + (lastIdx w).val + 1 ≤ 65536; omega
  | ⟨1, _⟩ => show 0 + 1024 ≤ 1024; omega

/-- A subcore works exactly when its row is one of the sixteen. -/
theorem cond1_iff (L : grid0.Coords) : k0_cond1 L = 1#1 ↔ 2 * (L 1).val + (L 0).val < 16 := by
  revert L; decide +kernel

end Cert.Proof.LastRow

end
-- ==== Proof.Tile.lean ====
/-
  One vector subcore's task: fetch row `r` of the mask's words, add them up lane by lane and then across the lanes, turn the
  sum into the number of a row of the input, fetch that row and write it out as row `r` of the result.
-/
module

public import proofs.«01_k».proof.Proof.Count

@[expose] public section

noncomputable section

namespace Cert.Proof.LastRow

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

-- the kernel's arrays as the call passes them: the mask's words, the input's rows, the result, the two scratches
local notation "maskV" => (Memref.whole Cert.KernelIdeal.main_v2_scv : Memref Cert.KernelIdeal.sig Kind.scVector Space.hbm Cert.KernelIdeal.S65536 EltTy.i32)
local notation "rowsV" => (Memref.whole Cert.KernelIdeal.main_v0_scv : Memref Cert.KernelIdeal.sig Kind.scVector Space.hbm Cert.KernelIdeal.S65536x1024 EltTy.f32)
local notation "outV" => (Memref.whole Cert.KernelIdeal.main_v3_scv : Memref Cert.KernelIdeal.sig Kind.scVector Space.hbm Cert.KernelIdeal.S16x1024 EltTy.f32)
local notation "mrowV" => (Memref.whole Cert.KernelIdeal.cc0_scratch0 : Memref Cert.KernelIdeal.sig Kind.scVector Space.vmem Cert.KernelIdeal.S4096 EltTy.i32)
local notation "rowV" => (Memref.whole Cert.KernelIdeal.cc0_scratch1 : Memref Cert.KernelIdeal.sig Kind.scVector Space.vmem Cert.KernelIdeal.S1x1024 EltTy.f32)

variable [FloatOps F] (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0
/-- The thread of the vector subcore at grid point `L`, and the row it works on. -/
abbrev thr (d : Dev nD) (L : grid0.Coords) : Thread nD τ := V d (cV L) (jV L)
abbrev rL (L : grid0.Coords) : Fin 16 := rowOf (L 0).val (L 1).val

/-- The subcore's three scoped DMA cells: one for each of its copies. -/
abbrev cellM (d : Dev nD) (L : grid0.Coords) : GSem nD τ sig := (thr d L, .dma cc0_scoped0.sem)
abbrev cellX (d : Dev nD) (L : grid0.Coords) : GSem nD τ sig := (thr d L, .dma cc0_scoped1.sem)
abbrev cellO (d : Dev nD) (L : grid0.Coords) : GSem nD τ sig := (thr d L, .dma cc0_scoped2.sem)

omit [FloatOps F] in
/-- The subcore's semaphores are the three cells and the rest. -/
theorem ownSems0_thr :
    (ownSems0 (thr d L) : sProp 𝕄)
      = iprop(semVal (cellM d L) 0 ∗ semVal (cellX d L) 0 ∗ semVal (cellO d L) 0
          ∗ bigSep ((((ownCells (thr d L)).erase (cellM d L)).erase (cellX d L)).erase (cellO d L)) fun g => semVal g 0) := by
  have hM : cellM d L ∈ ownCells (thr d L) := mem_ownCells.mpr ⟨rfl, by
    show (SemLoc.dma cc0_scoped0.sem : SemLoc sig).isScoped .scVector = true; decide⟩
  have hX : cellX d L ∈ ownCells (thr d L) := mem_ownCells.mpr ⟨rfl, by
    show (SemLoc.dma cc0_scoped1.sem : SemLoc sig).isScoped .scVector = true; decide⟩
  have hO : cellO d L ∈ ownCells (thr d L) := mem_ownCells.mpr ⟨rfl, by
    show (SemLoc.dma cc0_scoped2.sem : SemLoc sig).isScoped .scVector = true; decide⟩
  have hXM : cellX d L ≠ cellM d L := fun e => absurd (congrArg Prod.snd e) (show (SemLoc.dma cc0_scoped1.sem : SemLoc sig) ≠ .dma cc0_scoped0.sem by decide)
  have hOM : cellO d L ≠ cellM d L := fun e => absurd (congrArg Prod.snd e) (show (SemLoc.dma cc0_scoped2.sem : SemLoc sig) ≠ .dma cc0_scoped0.sem by decide)
  have hOX : cellO d L ≠ cellX d L := fun e => absurd (congrArg Prod.snd e) (show (SemLoc.dma cc0_scoped2.sem : SemLoc sig) ≠ .dma cc0_scoped1.sem by decide)
  unfold SparseCore.Cfg.ownSems0
  rw [SparseCore.bigSep_erase' hM, SparseCore.bigSep_erase' (Finset.mem_erase.mpr ⟨hXM, hX⟩),
    SparseCore.bigSep_erase' (Finset.mem_erase.mpr ⟨hOX, Finset.mem_erase.mpr ⟨hOM, hO⟩⟩)]

omit [FloatOps F] in
/-- The subcore's buffers are the two scratches, each at some contents, and the rest. -/
theorem ownBufs_thr :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  have hne : (Proc.scVector (cV L) (jV L)).devRef cc0_scratch1 ≠ (Proc.scVector (cV L) (jV L)).devRef cc0_scratch0 := fun e =>
    absurd (Proc.devRef_injective _ e) (show (cc0_scratch1 : Ref sig .scVector) ≠ cc0_scratch0 by decide)
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨hne, SparseCore.Cfg.mem_ownRefs_of_owner (p := Proc.scVector (cV L) (jV L))
    (b := (Proc.scVector (cV L) (jV L)).devRef cc0_scratch1) rfl⟩)]

/-- The row of the result as the body addresses it. -/
abbrev outK (L : grid0.Coords) (h : k0_cond1 L = 1#1) : Memref sig .scVector .hbm S1x1024 .f32 :=
  (outV).slice (Rect.unit (s := S16x1024) (k0_off4 L) S1x1024.size (k0_off4_inb L h)) (fun _ => rfl)

/-- It is row `2 s + c`. -/
theorem outK_set (h : k0_cond1 L = 1#1) (hw : 2 * (L 1).val + (L 0).val < 16) : (outK L h).view.set = outSet (rL L) := by
  have e : Rect.unit (s := S16x1024) (k0_off4 L) S1x1024.size (k0_off4_inb L h) = outRow (rL L) := by
    unfold outRow Rect.part Rect.block
    congr 1 <;> funext a
    · rw [k0_off4_eq]
      match a with
      | 0 => simp [Shape.partIx, Shape.partSize, Nat.mod_eq_of_lt hw]
      | 1 => simp [Shape.partIx, Shape.partSize]
    · match a with
      | 0 => simp [Shape.partSize]
      | 1 => simp [Shape.partSize]
  show ((View.whole (main_v3_scv : Ref sig .scVector)).slice _).set = _
  rw [View.set_slice, e]; exact Finset.map_refl

omit [FloatOps F] in
/-- The worker's slice of the result, as the body spells it, is its row of the result. -/
theorem pts_outK (h : k0_cond1 L = 1#1) (hw : 2 * (L 1).val + (L 0).val < 16) (f : Buf (Elt F) (outLoc d)) :
    ((outK L h).view.loc (thr d L) ↦[(outK L h).view.set]{fullShare} f : sProp 𝕄) = outLoc d ↦[outSet (rL L)]{fullShare} f := by
  rw [outK_set L h hw]
omit [FloatOps F] in
/-- The mask as the body spells it is the mask's array, -/
theorem pts_mask (q : PosShare TreeShare) (f : Buf (Elt F) (maskLoc d)) :
    ((maskV).view.loc (thr d L) ↦{q} f : sProp 𝕄) = maskLoc d ↦{q} f := rfl
omit [FloatOps F] in
/-- the input's rows as the body spells them are their array, -/
theorem pts_rows (q : PosShare TreeShare) (f : Buf (Elt F) (rowsLoc d)) :
    ((rowsV).view.loc (thr d L) ↦{q} f : sProp 𝕄) = rowsLoc d ↦{q} f := rfl
omit [FloatOps F] in
/-- the buffer for a mask row is the first scratch array, -/
theorem pts_mrow (f : Buf (Elt F) ((thr d L).loc cc0_scratch0)) :
    ((mrowV).view.loc (thr d L) ↦{fullShare} f : sProp 𝕄) = (thr d L).loc cc0_scratch0 ↦{fullShare} f := rfl
omit [FloatOps F] in
/-- and the buffer for an input row is the second. -/
theorem pts_row (f : Buf (Elt F) ((thr d L).loc cc0_scratch1)) :
    ((rowV).view.loc (thr d L) ↦{fullShare} f : sProp 𝕄) = (thr d L).loc cc0_scratch1 ↦{fullShare} f := rfl

/-- The first scratch after its copy: row `r` of the mask's words. -/
def mrowOf (r : Fin 16) : Buf (Elt F) ((mrowV).view.loc (thr d L)) := (fun j => (Mof m d : S65536.Idx → BitVec 32) (maskIx r (j 0)) : S4096.Idx → BitVec 32)

/-- The loop's state before step `k`: the scratch unchanged, the sixteen lanes' sums of the first `16 k` words. -/
def inv (r : Fin 16) (k : ℕ) (acc : IVec S16 32) : sProp 𝕄 :=
  iprop(((mrowV).view.loc (thr d L) ↦{fullShare} mrowOf m d L r) ∗ ⌜acc = lanes (Mof m d) r k⌝)

/-- A program that only returns, then another: the other at the value returned. -/
theorem bind_ret_eq {E : Type → Type} {α β : Type} (a : α) (k : α → Prog E β) : (Prog.ret a).bind k = k a := rfl

/-- The loop runs 256 times. -/
theorem trips_eq : Scf.trips k0_t1_loop.lb k0_t1_loop.ub k0_t1_loop.st = 256 := by decide

/-- Step `k` loads the words `16 k … 16 k + 15` of the row. -/
theorem readAt_mrow (r : Fin 16) (k : Fin k0_t1_loop.trips) (l : S16.Idx) (hb : ∀ a, k0_off2 k a + S16.size a ≤ S4096.size a) :
    View.readAt (Elt F) (mrowV).view (Rect.unit (s := S4096) (k0_off2 k) S16.size hb).toLoadRect (mrowOf m d L r) l
      = wordAt (Mof m d) r (16 * k.val + (l 0).val) := by
  have hk : k.val < 256 := lt_of_lt_of_eq k.isLt trips_eq
  have hl : (l 0).val < 16 := (l 0).isLt
  unfold wordAt
  rw [dif_pos (by omega)]
  show Mof m d (maskIx r _) = Mof m d (maskIx r _)
  refine congrArg (fun j => Mof m d (maskIx r j)) (Fin.ext ?_)
  show k0_off2 k 0 + 1 * (l 0).val = 16 * k.val + (l 0).val
  rw [k0_off2_eq]
  show 16 * k.val + 1 * (l 0).val = _
  omega

/-- Row `r`'s picked row of the input, at column `j`. -/
def rowAt (M : S65536.Idx → BitVec 32) (r : Fin 16) (j : Fin 1024) : S65536x1024.Idx :=
  ix2 (n0 := 65536) (n1 := 1024) ⟨4096 * r.val + (lastIdx (total M r)).val, by
    have h1 := (lastIdx (total M r)).isLt
    omega⟩ j

/-- What the second copy fetches, where its word `w` is the row's count. -/
theorem read_row (hw : 2 * (L 1).val + (L 0).val < 16) (w : BitVec 32) (hcnt : w = total (Mof m d) (rL L))
    (hle : (total (Mof m d) (rL L)).toNat ≤ 4096) (hb : ∀ a, k0_off3 L w a + S1x1024.size a ≤ S65536x1024.size a) (y : S1x1024.Idx) :
    (Xof m d : S65536x1024.Idx → Elt F .f32)
        (((rowsV).slice (Rect.unit (s := S65536x1024) (k0_off3 L w) S1x1024.size hb) (fun _ => rfl)).view.emb y)
      = (Xof m d : S65536x1024.Idx → Elt F .f32) (rowAt (Mof m d) (rL L) (y 1)) := by
  subst hcnt
  have hy : (y 0).val = 0 := Nat.lt_one_iff.mp (y 0).isLt
  refine congrArg (Xof m d : S65536x1024.Idx → Elt F .f32) (funext fun a => Fin.ext ?_)
  match a with
  | ⟨0, _⟩ =>
    show k0_off3 L (total (Mof m d) (rL L)) 0 + 1 * (y 0).val
      = 4096 * ((2 * (L 1).val + (L 0).val) % 16) + (lastIdx (total (Mof m d) (rL L))).val
    rw [off3_eq L _ hle, Nat.mod_eq_of_lt hw]
    show 4096 * (2 * (L 1).val + (L 0).val) + (lastIdx (total (Mof m d) (rL L))).val + 1 * (y 0).val = _
    omega
  | ⟨1, _⟩ =>
    show k0_off3 L (total (Mof m d) (rL L)) 1 + 1 * (y 1).val = (y 1).val
    rw [off3_eq L _ hle]
    show 0 + 1 * (y 1).val = _
    omega

omit [FloatOps F] in
/-- Reading the result's row is taking the result's elements there. -/
theorem read_out (h : k0_cond1 L = 1#1) (g : Buf (Elt F) (outLoc d)) (y : S1x1024.Idx) :
    (outK L h).view.read (Elt F) g y = g ((outK L h).view.emb y) := rfl

/-- A row of words equal to row `r`'s picked row, written to row `r` of the result, makes that row what is claimed. -/
theorem out_agrees (h : k0_cond1 L = 1#1) (hw : 2 * (L 1).val + (L 0).val < 16) (w : S1x1024.Idx → Elt F .f32)
    (hrow : ∀ y, w y = (Xof m d : S65536x1024.Idx → Elt F .f32) (rowAt (Mof m d) (rL L) (y 1))) :
    ∀ i ∈ (outK L h).view.set, (outK L h).view.writes (Elt F) (m (outLoc d)) [⟨Rect.whole S1x1024, w⟩] i = Gof m d i := by
  intro i hi
  obtain ⟨y, -, rfl⟩ := Finset.mem_map.mp hi
  refine (read_out d L h ((outK L h).view.writes (Elt F) (m (outLoc d)) [⟨Rect.whole S1x1024, w⟩]) y).symm.trans ?_
  rw [View.read_writes_whole, hrow]
  have hy : (y 0).val = 0 := Nat.lt_one_iff.mp (y 0).isLt
  have e0 : ((outK L h).view.emb y : S16x1024.Idx) 0 = rL L := Fin.ext (by
    show k0_off4 L 0 + 1 * (y 0).val = (2 * (L 1).val + (L 0).val) % 16
    rw [k0_off4_eq, Nat.mod_eq_of_lt hw]
    show 2 * (L 1).val + (L 0).val + 1 * (y 0).val = _
    omega)
  have e1 : ((outK L h).view.emb y : S16x1024.Idx) 1 = y 1 := Fin.ext (by
    show k0_off4 L 1 + 1 * (y 1).val = _
    rw [k0_off4_eq]
    show 0 + 1 * (y 1).val = _
    omega)
  show _ = (Xof m d : S65536x1024.Idx → Elt F .f32)
    (rowAt (Mof m d) (((outK L h).view.emb y : S16x1024.Idx) 0) (((outK L h).view.emb y : S16x1024.Idx) 1))
  rw [e0, e1]

/-- The worker on row `r = 2 s + c`: from a share of the mask's words, a share of the input's rows and row `r` of the
    result, it ends with row `r` of the result at the input row the count picks; its scratches and semaphores come back. -/
theorem tile_work (hF : (K (F := F)).Facts) (h : k0_cond1 L = 1#1) (hw : 2 * (L 1).val + (L 0).val < 16)
    (O : CellTallies nD τ sig (HIx 1)) (W : Waits sig (HIx 1)) (hO : ∀ g, O g none = 0) :
    iprop(levAts (K (F := F)).L (K (F := F)).lev ∗ emp ∗ taskIn m d (rL L)
        ∗ scopedBufs (thr d L) ∗ scopedSems0 (thr d L) ∗ owes (thr d L) O W)
      ⊢ wp frame (wpE (defs₀ (F := F)) 𝒱₀ (thr d L) none) Set.univ
          (cc0__body L maskV (Memref.isWhole_whole _) rowsV (Memref.isWhole_whole _) outV (Memref.isWhole_whole _)
            mrowV (Memref.isWhole_whole _) rowV (Memref.isWhole_whole _) cc0_scoped0 cc0_scoped1 cc0_scoped2)
          fun _ => iprop(taskOut m d (rL L) ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_thr, ownBufs_thr]
  unfold taskIn taskOut
  simp only [cc0__body_eq_skeleton]; unfold cc0__body_skel
  iintro ⟨#Hlv, -, ⟨Hm, Hx, Ho⟩, ⟨⟨%f0, Hmr⟩, ⟨%f1, Hr⟩, Hbufs⟩, ⟨HsM, HsX, HsO, Hsems⟩, HO⟩
  ihave Hmw := (show levAts (K (F := F)).L (K (F := F)).lev ⊢ Transfers.MayWaits (thr d L) (default : HIx 1) O from
    (K (F := F)).mayWaits_none (thr := thr d L) hO) $$ Hlv
  ihave Hm' := (Entails.of_eq (pts_mask (F := F) d L _ _).symm) $$ Hm
  ihave Hx' := (Entails.of_eq (pts_rows (F := F) d L _ _).symm) $$ Hx
  ihave Ho' := (Entails.of_eq (pts_outK (F := F) d L h hw _).symm) $$ Ho
  ihave Hmr' := (Entails.of_eq (pts_mrow (F := F) d L _).symm) $$ Hmr
  ihave Hr' := (Entails.of_eq (pts_row (F := F) d L _).symm) $$ Hr
  sl_exec
  have hmrow : View.write (Elt F) (Memref.whole cc0_scratch0).view f0 (tile_work.sl.dma0 m d L h) Finset.univ = mrowOf m d L (rL L) := by
    refine (View.write_whole_univ cc0_scratch0 f0 _).trans ?_
    unfold tile_work.sl.dma0
    funext j
    show Mof m d (((maskV).slice (Rect.unit (s := S65536) (k0_off1 L) S4096.size (k0_off1_inb L h)) (fun _ => rfl)).view.emb j) = _
    refine congrArg (Mof m d) (funext fun a => Fin.ext ?_)
    match a with
    | ⟨0, _⟩ =>
      show k0_off1 L 0 + 1 * (j 0).val = 4096 * ((2 * (L 1).val + (L 0).val) % 16) + (j 0).val
      rw [k0_off1_eq, Nat.mod_eq_of_lt hw]
      show 8192 * (L 1).val + 4096 * (L 0).val + 1 * (j 0).val = _
      omega
  rw [hmrow]
  sl_for (inv m d L (rL L)) $$ [Hmr']
  case region =>
    intro k acc
    unfold inv
    iintro ⟨Hmr, %hacc⟩
    sl_exec
    rw [wp_ret]; imodintro
    isplitl [Hmr]; · iexact Hmr
    ipureintro
    rw [hacc]
    exact lanes_succ (F := F) _ _ _ _ fun l => readAt_mrow m d L (rL L) k l _
  · unfold inv
    isplitl [Hmr']; · iexact Hmr'
    ipureintro; exact lanes_zero _ _
  iintro %acc HI
  unfold inv
  icases HI with ⟨Hmr', %hacc⟩
  rw [trips_eq] at hacc
  have hcnt : extractAt ![0] (k0_pay3 acc) inpos_S1_p0 = total (Mof m d) (rL L) := by rw [hacc]; exact extract_lanes _ _
  have hle : (total (Mof m d) (rL L)).toNat ≤ 4096 := total_le (Mof_isBits m d) _
  have hchk : k0_chk1 L (extractAt ![0] (k0_pay3 acc) inpos_S1_p0) := by rw [hcnt]; exact chk_of_le L _ hw hle
  unfold tile_work.sl.prog.cont_1
  iapply (wp_assume 𝒱₀ (thr d L) none Set.univ hchk)
  rw [bind_ret_eq]
  sl_exec (disch := exact View.amount_pos _ _ (show 0 < S1x1024.numel by decide))
  -- the copied row is row `r` of what is claimed
  have hrow : ∀ y, (tile_work.sl.dma0_2 m d L h f1 acc hchk : S1x1024.Idx → Elt F .f32) y
      = (Xof m d : S65536x1024.Idx → Elt F .f32) (rowAt (Mof m d) (rL L) (y 1)) := by
    intro y
    unfold tile_work.sl.dma0_2
    refine (congrFun (View.write_whole_univ cc0_scratch1 f1 (tile_work.sl.dma0_1 m d L h acc hchk)) y).trans ?_
    unfold tile_work.sl.dma0_1
    exact read_row m d L hw _ hcnt hle _ y
  have hout := out_agrees m d L h hw _ hrow
  rw [wp_ret]; imodintro
  ihave Ho := (Entails.of_eq ((pointsTo_congr hout).trans (pts_outK (F := F) d L h hw _))) $$ Ho'
  isplitl [Ho]; · iexact Ho
  isplitl [Hmr' Hr' Hbufs]
  · isplitl [Hmr']; · iexists _; iexact Hmr'
    isplitl [Hr']; · iexists _; iexact Hr'
    iexact Hbufs
  isplitl [HsM HsX HsO Hsems]
  · isplitl [HsM]; · iexact HsM
    isplitl [HsX]; · iexact HsX
    isplitl [HsO]; · iexact HsO
    iexact Hsems
  iexists _; isplitr
  swap; · iexact HO
  -- each wait is on a copy's own cell, or of the one call
  ipureintro; intro p _
  rcases p.2 with _ | q
  · exact .inr (.inl rfl)
  · exact .inr (.inr (congrArg some (Subsingleton.elim q 0)))

end Tile

end Cert.Proof.LastRow

end
-- ==== Proof.Run.lean ====
/-
  The launch: every vector subcore's obligation, the call's dealing of the rows to the vector subcores, the program on the
  host's side, and the run of the whole program: the arguments unchanged and the result at the value claimed.
-/
module

public import proofs.«01_k».proof.Proof.Tile

@[expose] public section

noncomputable section

namespace Cert.Proof.LastRow

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.ValueIdx (ix1 ix2 ix3)

variable {F : FTy → Type}

local notation "𝕄" => MT nD τ sig (HIx 1) (Elt F) ℕ UU ℕ

-- the kernel's arrays as the call passes them: the mask's words, the input's rows, the result, the two scratches
local notation "maskV" => (Memref.whole Cert.KernelIdeal.main_v2_scv : Memref Cert.KernelIdeal.sig Kind.scVector Space.hbm Cert.KernelIdeal.S65536 EltTy.i32)
local notation "rowsV" => (Memref.whole Cert.KernelIdeal.main_v0_scv : Memref Cert.KernelIdeal.sig Kind.scVector Space.hbm Cert.KernelIdeal.S65536x1024 EltTy.f32)
local notation "outV" => (Memref.whole Cert.KernelIdeal.main_v3_scv : Memref Cert.KernelIdeal.sig Kind.scVector Space.hbm Cert.KernelIdeal.S16x1024 EltTy.f32)
local notation "mrowV" => (Memref.whole Cert.KernelIdeal.cc0_scratch0 : Memref Cert.KernelIdeal.sig Kind.scVector Space.vmem Cert.KernelIdeal.S4096 EltTy.i32)
local notation "rowV" => (Memref.whole Cert.KernelIdeal.cc0_scratch1 : Memref Cert.KernelIdeal.sig Kind.scVector Space.vmem Cert.KernelIdeal.S1x1024 EltTy.f32)

variable [FloatOps F] (m : (ℓ : Loc nD τ sig) → Buf (Elt F) ℓ) (ρ : Dev nD → PrngReg)

/-! ## The vector subcores -/

/-- A vector subcore past the sixteenth row does nothing. -/
theorem tile_idle (d : Dev nD) (L : grid0.Coords) (h : ¬ k0_cond1 L = 1#1) (O : CellTallies nD τ sig (HIx 1)) (W : Waits sig (HIx 1)) :
    iprop(levAts (K (F := F)).L (K (F := F)).lev ∗ emp ∗ (emp : sProp 𝕄)
        ∗ scopedBufs (thr d L) ∗ scopedSems0 (thr d L) ∗ owes (thr d L) O W)
      ⊢ wp frame (wpE (defs₀ (F := F)) 𝒱₀ (thr d L) none) Set.univ
          (cc0__body L maskV (Memref.isWhole_whole _) rowsV (Memref.isWhole_whole _) outV (Memref.isWhole_whole _)
            mrowV (Memref.isWhole_whole _) rowV (Memref.isWhole_whole _) cc0_scoped0 cc0_scoped1 cc0_scoped2)
          fun _ => iprop((emp : sProp 𝕄) ∗ scopedBufs (thr d L) ∗ scopedSems0 (thr d L)
            ∗ ∃ W', ⌜∀ p ∈ W', p ∈ W ∨ p.2 = none ∨ p.2 = some (0 : Fin 1)⌝ ∗ owes (thr d L) O W') := by
  simp only [cc0__body_eq_skeleton]; unfold cc0__body_skel
  rw [dif_neg h, wp_pure]
  iintro ⟨-, -, -, Hb, Hs, HO⟩
  imodintro
  isplitr; · iempintro
  isplitl [Hb]; · iexact Hb
  isplitl [Hs]; · iexact Hs
  iexists W; isplitr
  · ipureintro; intro p hp; exact .inl hp
  iexact HO

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore runs for the call: the body at its grid point. -/
theorem defs₀_vector (c : Fin τ.nSC) (s : Fin τ.nSub) :
    defs₀ (F := F) (.scVector c s) 0 ()
      = SparseCore.onTile hcore0 hsub0 (fun c s => cc0__body (coordsV c s)
          maskV (Memref.isWhole_whole _) rowsV (Memref.isWhole_whole _) outV (Memref.isWhole_whole _)
          mrowV (Memref.isWhole_whole _) rowV (Memref.isWhole_whole _) cc0_scoped0 cc0_scoped1 cc0_scoped2) ⟨⟩ c s := rfl

/-- Either way, the vector subcore at grid point `L` does what it is handed. -/
theorem tile_any (hF : (K (F := F)).Facts) (d : Dev nD) (L : grid0.Coords) (O : CellTallies nD τ sig (HIx 1)) (W : Waits sig (HIx 1))
    (hO : ∀ g, O g none = 0) :
    iprop(levAts (K (F := F)).L (K (F := F)).lev ∗ emp ∗ goOf m d (L 0).val (L 1).val
        ∗ scopedBufs (thr d L) ∗ scopedSems0 (thr d L) ∗ owes (thr d L) O W)
      ⊢ wp frame (wpE (defs₀ (F := F)) 𝒱₀ (thr d L) none) Set.univ
          (cc0__body L maskV (Memref.isWhole_whole _) rowsV (Memref.isWhole_whole _) outV (Memref.isWhole_whole _)
            mrowV (Memref.isWhole_whole _) rowV (Memref.isWhole_whole _) cc0_scoped0 cc0_scoped1 cc0_scoped2)
          fun _ => iprop(tdOf m d (L 0).val (L 1).val ∗ scopedBufs (thr d L) ∗ scopedSems0 (thr d L)
            ∗ ∃ W', ⌜∀ p ∈ W', p ∈ W ∨ p.2 = none ∨ p.2 = some (0 : Fin 1)⌝ ∗ owes (thr d L) O W') := by
  unfold goOf tdOf
  by_cases hw : 2 * (L 1).val + (L 0).val < 16
  · rw [if_pos hw, if_pos hw]; exact tile_work m d L hF ((cond1_iff L).mpr hw) hw O W hO
  · rw [if_neg hw, if_neg hw]; exact tile_idle d L (fun h => hw ((cond1_iff L).mp h)) O W

/-- Every vector subcore, handed what the call carries to it, runs its part of the body and hands back what the call expects. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_any m hF d (coordsV ⟨_, hci.1⟩ ⟨_, hci.2⟩) O W hO

/-- A SparseCore's share of the call is its vector subcores' shares together. -/
theorem vecSplit : (K (F := F)).VecSplit' (P m) 0 := by
  intro d c
  show (bigSep Finset.univ fun i : Fin 16 => goOf m d c.val i.val) ⊢ |={Set.univ}=> iprop(
      (bigSep Finset.univ fun i : Fin 16 => goOf m d c.val i.val)
      ∗ ((bigSep Finset.univ fun i : Fin 16 => tdOf m d c.val i.val) -∗ bigSep Finset.univ fun i : Fin 16 => tdOf m d c.val i.val))
  iintro H; imodintro
  isplitl [H]; · iexact H
  iintro H; iexact H

/-! ## The rows dealt to the vector subcores -/

omit [FloatOps F] in
/-- Over the two SparseCores' sixteen vector subcores, the ones with a row have each row once. -/
theorem deal (Φ : Fin 16 → sProp 𝕄) :
    (bigSep Finset.univ fun c : Fin 2 => bigSep Finset.univ fun i : Fin 16 => if 2 * i.val + c.val < 16 then Φ (rowOf c.val i.val) else iprop(emp))
      = bigSep Finset.univ Φ := by
  have hinj : Set.InjOn (fun a : Fin 2 × Fin 16 => rowOf a.1.val a.2.val)
      ((Finset.univ.filter fun a : Fin 2 × Fin 16 => 2 * a.2.val + a.1.val < 16 : Finset (Fin 2 × Fin 16)) : Set (Fin 2 × Fin 16)) := by
    rintro ⟨c, i⟩ ha ⟨c', i'⟩ hb e
    have ha' : 2 * i.val + c.val < 16 := (Finset.mem_filter.mp (Finset.mem_coe.mp ha)).2
    have hb' : 2 * i'.val + c'.val < 16 := (Finset.mem_filter.mp (Finset.mem_coe.mp hb)).2
    have e' : (2 * i.val + c.val) % 16 = (2 * i'.val + c'.val) % 16 := congrArg Fin.val e
    rw [Nat.mod_eq_of_lt ha', Nat.mod_eq_of_lt hb'] at e'
    exact Prod.ext (Fin.ext (by show c.val = c'.val; omega)) (Fin.ext (by show i.val = i'.val; omega))
  have himg : (Finset.univ.filter fun a : Fin 2 × Fin 16 => 2 * a.2.val + a.1.val < 16).image (fun a => rowOf a.1.val a.2.val) = Finset.univ := by decide
  refine Eq.trans ?_ (congrArg (fun s => bigSep s Φ) himg)
  show _ = bigSep (Finset.image _ _) Φ
  rw [SparseCore.bigSep_image_of_injOn hinj, BI.bigSep_filter, ← Finset.univ_product_univ, SparseCore.bigSep_product]
  rfl

omit [FloatOps F] in
/-- Different rows of the result share no place. -/
theorem outRows_disjoint : ∀ i ∈ (Finset.univ : Finset (Fin 16)), ∀ j ∈ (Finset.univ : Finset (Fin 16)), i ≠ j → Disjoint (outSet i) (outSet j) :=
  fun _ _ _ _ h => Rect.part_disjoint hdivOut h
omit [FloatOps F] in
/-- The sixteen rows make up the result. -/
theorem outRows_cover : (Finset.univ : Finset (Fin 16)).biUnion outSet = Finset.univ := Rect.biUnion_part hdivOut

omit [FloatOps F] in
/-- The result whole is its sixteen rows. -/
theorem out_rows (d : Dev nD) (f : Buf (Elt F) (outLoc d)) :
    (outLoc d ↦{fullShare} f : sProp 𝕄) = bigSep Finset.univ fun r : Fin 16 => outLoc d ↦[outSet r]{fullShare} f := by
  rw [← pointsTo_biUnion Finset.univ (ℓ := outLoc d) outSet outRows_disjoint, outRows_cover]; try rfl

/-- What the call is handed, from the mask's words, the input's rows and the result whole. -/
theorem st_intro (d : Dev nD) :
    iprop((maskLoc d ↦{fullShare} Mof m d) ∗ (rowsLoc d ↦{fullShare} Xof m d) ∗ outLoc d ↦{fullShare} m (outLoc d))
      ⊢ (bigSep Finset.univ fun c : Fin ((K (F := F)).nCore 0) => (P m).st 0 d c : sProp 𝕄) := by
  show _ ⊢ (bigSep Finset.univ fun c : Fin 2 => bigSep Finset.univ fun i : Fin 16 => goOf m d c.val i.val : sProp 𝕄)
  unfold goOf
  rw [deal]
  unfold taskIn
  rw [bigSep_sep', bigSep_sep', ← out_rows]
  iintro ⟨Hm, Hx, Ho⟩
  ihave Hm' := (Transfers.pointsTo_toks_split (Val := Elt F) fullShare 16) $$ Hm
  icases Hm' with ⟨-, Hm⟩
  ihave Hx' := (Transfers.pointsTo_toks_split (Val := Elt F) fullShare 16) $$ Hx
  icases Hx' with ⟨-, Hx⟩
  isplitl [Hm]; · iexact Hm
  isplitl [Hx]; · iexact Hx
  iexact Ho

/-- What the call hands back is the result whole, at the value claimed. -/
theorem dn_eq (d : Dev nD) :
    (bigSep Finset.univ fun c : Fin ((K (F := F)).nCore 0) => (P m).dn 0 d c : sProp 𝕄) = outLoc d ↦{fullShare} Gof m d := by
  show (bigSep Finset.univ fun c : Fin 2 => bigSep Finset.univ fun i : Fin 16 => tdOf m d c.val i.val : sProp 𝕄) = _
  unfold tdOf
  rw [deal]
  unfold taskOut
  rw [← out_rows]

/-! ## The host's program -/

abbrev bx : DevRef τ sig := Proc.devRef .tc (main_arg0 : Ref sig .tc)
abbrev bb : DevRef τ sig := Proc.devRef .tc (main_arg1 : Ref sig .tc)
abbrev brows : DevRef τ sig := Proc.devRef .tc (main_v0 : Ref sig .tc)
abbrev bwide : DevRef τ sig := Proc.devRef .tc (main_v1 : Ref sig .tc)
abbrev bmask : DevRef τ sig := Proc.devRef .tc (main_v2 : Ref sig .tc)
abbrev bout : DevRef τ sig := Proc.devRef .tc (main_v3 : Ref sig .tc)

/-- The three operations before the call: the input as rows, the mask's bits as words, the words in one line. -/
abbrev opRows : HloOp τ sig (Elt F) :=
  StableHlo.reshape main_arg0 main_v0 (rfl : (.f32 : EltTy) = .f32) shapeCasts_S16x4096x1024_S65536x1024
abbrev opWide : HloOp τ sig (Elt F) :=
  StableHlo.unary main_arg1 main_v1 ((extui 32 · natLt_1_32) : (⟨S16x4096, .i1⟩ : BufTy).Contents (Elt F) → (⟨S16x4096, .i32⟩ : BufTy).Contents (Elt F))
abbrev opLine : HloOp τ sig (Elt F) :=
  StableHlo.reshape main_v1 main_v2 (rfl : (.i32 : EltTy) = .i32) shapeCasts_S16x4096_S65536

/-- The host's six arrays. -/
abbrev allBufs : Finset (DevRef τ sig) := {bx, bb, brows, bwide, bmask, bout}

/-- The arrays' contents at launch, and after each of the three operations. -/
def at0 (d : Dev nD) : Valuation τ sig (Elt F) := fun b => m (d, b)
def at1 (d : Dev nD) : Valuation τ sig (Elt F) := (opRows (F := F)).result (at0 m d)
def at2 (d : Dev nD) : Valuation τ sig (Elt F) := (opWide (F := F)).result (at1 m d)
def at3 (d : Dev nD) : Valuation τ sig (Elt F) := (opLine (F := F)).result (at2 m d)

omit [FloatOps F] in
/-- The six arrays held together are the six held one by one. -/
theorem held_all (d : Dev nD) (W : Valuation τ sig (Elt F)) :
    (held (SparseCore.T d) allBufs W : sProp 𝕄)
      = iprop((xLoc d ↦{fullShare} W bx) ∗ (bLoc d ↦{fullShare} W bb) ∗ (rowsLoc d ↦{fullShare} W brows) ∗ (wideLoc d ↦{fullShare} W bwide)
          ∗ (maskLoc d ↦{fullShare} W bmask) ∗ outLoc d ↦{fullShare} W bout) := by
  unfold held
  rw [SparseCore.bigSep_insert' (by decide), SparseCore.bigSep_insert' (by decide), SparseCore.bigSep_insert' (by decide),
    SparseCore.bigSep_insert' (by decide), SparseCore.bigSep_insert' (by decide), bigSep_singleton]

/-- The launch hands the host its six arrays at their contents. -/
theorem launch_held (d : Dev nD) : (unscopedBufs d (fun b => m ((SparseCore.T d).loc b)) : sProp 𝕄) = held (SparseCore.T d) allBufs (at0 m d) := by
  rw [held_all]
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]
  rfl

/-- The arrays after each operation, held. -/
theorem held_step1 (d : Dev nD) :
    (held (SparseCore.T d) allBufs ((opRows (F := F)).result (at0 m d)) : sProp 𝕄) = held (SparseCore.T d) allBufs (at1 m d) := rfl
/-- The same after the mask's bits are widened, -/
theorem held_step2 (d : Dev nD) :
    (held (SparseCore.T d) allBufs ((opWide (F := F)).result (at1 m d)) : sProp 𝕄) = held (SparseCore.T d) allBufs (at2 m d) := rfl
/-- and after the words are put in one line. -/
theorem held_step3 (d : Dev nD) :
    (held (SparseCore.T d) allBufs ((opLine (F := F)).result (at2 m d)) : sProp 𝕄) = held (SparseCore.T d) allBufs (at3 m d) := rfl

/-- Each operation leaves what it does not write. -/
theorem rows_keeps (d : Dev nD) {b : DevRef τ sig} (h : b ≠ brows) : at1 m d b = at0 m d b := by
  unfold at1
  exact (opRows (F := F)).result_of_not_mem _ (show b ∉ ({brows} : Finset (DevRef τ sig)) from fun hb => h (Finset.mem_singleton.mp hb))
/-- Widening the mask's bits changes only the widened mask. -/
theorem wide_keeps (d : Dev nD) {b : DevRef τ sig} (h : b ≠ bwide) : at2 m d b = at1 m d b := by
  unfold at2
  exact (opWide (F := F)).result_of_not_mem _ (show b ∉ ({bwide} : Finset (DevRef τ sig)) from fun hb => h (Finset.mem_singleton.mp hb))
/-- Putting the words in one line changes only that line. -/
theorem line_keeps (d : Dev nD) {b : DevRef τ sig} (h : b ≠ bmask) : at3 m d b = at2 m d b := by
  unfold at3
  exact (opLine (F := F)).result_of_not_mem _ (show b ∉ ({bmask} : Finset (DevRef τ sig)) from fun hb => h (Finset.mem_singleton.mp hb))

/-- Before the call the arguments and the result are as launched, -/
theorem at3_x (d : Dev nD) : at3 m d bx = m (xLoc d) :=
  (line_keeps m d (by decide)).trans ((wide_keeps m d (by decide)).trans (rows_keeps m d (by decide)))
/-- the mask's bits among them, -/
theorem at3_b (d : Dev nD) : at3 m d bb = m (bLoc d) :=
  (line_keeps m d (by decide)).trans ((wide_keeps m d (by decide)).trans (rows_keeps m d (by decide)))
/-- and the result's array too; -/
theorem at3_out (d : Dev nD) : at3 m d bout = m (outLoc d) :=
  (line_keeps m d (by decide)).trans ((wide_keeps m d (by decide)).trans (rows_keeps m d (by decide)))
/-- the input lies as rows, -/
theorem at3_rows (d : Dev nD) : at3 m d brows = Xof m d :=
  (line_keeps m d (by decide)).trans ((wide_keeps m d (by decide)).trans
    (StableHlo.reshape_result' (x := main_arg0) (y := main_v0) rfl shapeCasts_S16x4096x1024_S65536x1024 _ _ (at0 m d)))
/-- and the mask's words lie in one line. -/
theorem at3_mask (d : Dev nD) : at3 m d bmask = Mof m d := by
  refine (StableHlo.reshape_result' (x := main_v1) (y := main_v2) rfl shapeCasts_S16x4096_S65536 _ _ (at2 m d)).trans ?_
  have e : at2 m d bwide = extui 32 (m (bLoc d) : S16x4096.Idx → BitVec 1) natLt_1_32 :=
    (StableHlo.unary_result' (x := main_arg1) (y := main_v1) _ _ _ (at1 m d)).trans
      (congrArg (fun v => extui 32 (v : S16x4096.Idx → BitVec 1) natLt_1_32) (rows_keeps m d (by decide)))
  show (fun i => shapeCast S65536 (at2 m d bwide : S16x4096.Idx → BitVec 32) shapeCasts_S16x4096_S65536 i) = _
  rw [e]
  rfl

/-- Laying the input out as rows touches only the host's arrays, -/
theorem opRows_bufs : (opRows (F := F)).bufs ⊆ allBufs := show ({bx, brows} : Finset (DevRef τ sig)) ⊆ allBufs by decide
/-- so does widening the mask's bits, -/
theorem opWide_bufs : (opWide (F := F)).bufs ⊆ allBufs := show ({bb, bwide} : Finset (DevRef τ sig)) ⊆ allBufs by decide
/-- and so does putting the words in one line. -/
theorem opLine_bufs : (opLine (F := F)).bufs ⊆ allBufs := show ({bwide, bmask} : Finset (DevRef τ sig)) ⊆ allBufs by decide

/-- What the host's program leaves to the claims: the arguments as launched, the result at its value. -/
abbrev FIN (d : Dev nD) : sProp 𝕄 :=
  iprop((xLoc d ↦{fullShare} m (xLoc d)) ∗ (bLoc d ↦{fullShare} m (bLoc d)) ∗ outLoc d ↦{fullShare} Gof m d)

/-- The host's program: the three operations, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held]
  simp only [main, wp_bind, wp_pure]
  iintro ⟨#Hctx, Hst, ⟨Hb, Hh, Hts, -⟩, -⟩
  iapply (wp_hlo_within 𝒱 (SparseCore.T d) none Set.univ (op := opRows) (S := allBufs) opRows_bufs (V := at0 m d)) $$ [Hb Hh]
  · isplitl [Hb] <;> iassumption
  iintro ⟨Hb, Hh⟩
  rw [wp_ret]; imodintro
  ihave Hh := (Entails.of_eq (held_step1 m d)) $$ Hh
  iapply (wp_hlo_within 𝒱 (SparseCore.T d) none Set.univ (op := opWide) (S := allBufs) opWide_bufs (V := at1 m d)) $$ [Hb Hh]
  · isplitl [Hb] <;> iassumption
  iintro ⟨Hb, Hh⟩
  rw [wp_ret]; imodintro
  ihave Hh := (Entails.of_eq (held_step2 m d)) $$ Hh
  iapply (wp_hlo_within 𝒱 (SparseCore.T d) none Set.univ (op := opLine) (S := allBufs) opLine_bufs (V := at2 m d)) $$ [Hb Hh]
  · isplitl [Hb] <;> iassumption
  iintro ⟨Hb, Hh⟩
  rw [wp_ret]; imodintro
  ihave Hh := (Entails.of_eq (held_step3 m d)) $$ Hh
  ihave Hh' := (Entails.of_eq (held_all (F := F) d (at3 m d))) $$ Hh
  rw [at3_x, at3_b, at3_rows, at3_mask, at3_out]
  icases Hh' with ⟨Hx, Hbits, Hrows, -, Hmask, Hout⟩
  iapply ((K (F := F)).wp_run (D (F := F)) 𝒱 (EH := EH) (P := P m) κ d 0) $$ [Hst Hx Hbits Hrows Hmask Hout Hb Hts]
  isplitr; · iexact Hctx
  isplitl [Hst]; · iexact Hst
  isplitl [Hrows Hmask Hout]
  · iapply (st_intro m d)
    isplitl [Hmask]; · iexact Hmask
    isplitl [Hrows]; · iexact Hrows
    iexact Hout
  iintro ⟨Hst, Hdn⟩
  ihave Hout := (Entails.of_eq (dn_eq m d)) $$ Hdn
  imodintro
  isplitl [Hst]; · iexact Hst
  isplitr [Hb Hts]
  · isplitl [Hx]; · iexact Hx
    isplitl [Hbits]; · iexact Hbits
    iexact Hout
  isplitl [Hb] <;> iassumption

/-- What the claims read of a final state on device `d`. -/
def Ends (d : Dev nD) (s : Phys nD τ sig (Elt F)) : Prop :=
  s.mem.mem (xLoc d) = m (xLoc d) ∧ s.mem.mem (bLoc d) = m (bLoc d) ∧ s.mem.mem (outLoc d) = Gof m d

/-- Holding the three arrays in a final state says what they contain there. -/
theorem ends_of_fin (d : Dev nD) (s : Phys nD τ sig (Elt F)) : iprop(FIN m d ∗ SI s) ⊢ (⌜Ends m d s⌝ : sProp 𝕄) := by
  iintro ⟨⟨Hx, Hb, Ho⟩, HSI⟩
  ihave H := (persistent_entails_right (SI_pointsTo_agree (st := s) (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s) (ℓ := bLoc d) (I := Finset.univ) (q := fullShare) (f := m (bLoc d)))) $$ [HSI Hb]
  · isplitl [HSI] <;> iassumption
  icases H with ⟨%hb, HSI, -⟩
  ihave H := (SI_pointsTo_agree (st := s) (ℓ := outLoc d) (I := Finset.univ) (q := fullShare) (f := Gof m d)) $$ [HSI Ho]
  · isplitl [HSI] <;> iassumption
  icases H with %ho
  ipureintro
  exact ⟨funext fun i => hx i (Finset.mem_univ i), funext fun i => hb i (Finset.mem_univ i), funext fun i => ho i (Finset.mem_univ i)⟩

/-! ## The run -/

/-- The launch's ghost state: the handshakes' rounds. -/
def u₀ : UU := (initOf (K (F := F)).hsCells (K (F := F)).hsToks, 1)

/-- The launch's ghost state gives the handshakes' rounds; devices and threads need nothing more. -/
theorem launch_ghost : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  have hx : (bigSep Finset.univ fun t : Thread nD τ => bigSep Finset.univ fun q : Fin 1 => (P (F := F) m).x q t) = (iprop(emp) : sProp 𝕄) :=
    (bigSep_congr fun _ _ => bigSep_emp_const _).trans (bigSep_emp_const _)
  have hd : (bigSep Finset.univ fun _ : Dev nD => iprop(emp)) = (iprop(emp) : sProp 𝕄) := bigSep_emp_const _
  rw [hx, hd]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-- What every run ends with: on each device the arguments as launched and the result at its value; all semaphores at zero. -/
def Final : PUnit × MemSt nD τ sig (Elt F) → Prop := fun r =>
  (∀ d : Dev nD, r.2.mem (xLoc d) = m (xLoc d) ∧ r.2.mem (bLoc d) = m (bLoc d) ∧ r.2.mem (outLoc d) = Gof m d) ∧ r.2.sem = fun _ => 0

/-- Every run of the program finishes, without a fault, in such a state — over any float values. -/
theorem run_main [∀ e, Nonempty (Elt F e)] :
    θ_run (Cert.KernelIdeal.defs (F := F)) (Cert.KernelIdeal.threads (F := F)) ⟨m, fun _ => 0, ρ⟩ (Final m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (launch_ghost m)) (hmain m ρ) (Ends m) (ends_of_fin m)
    (Final m) (fun _ h hz => ⟨h, hz⟩)

end Cert.Proof.LastRow

end
-- ==== Proof.RefValue.lean ====
/-
  The reference's value: its sum along the mask's rows, its index arithmetic and its gather, read index by index, are the row
  of the input that the kernel copies.
-/
module

public import proofs.«01_k».proof.Proof.Count
public import proofs.«01_k».proof.Proof.Gen.ReferenceIdeal.Run
public import Idealize.ShloMosaic.Lib.Pipeline.Value
public import Idealize.ShloMosaic.Lib.StableHlo.Predicate

@[expose] public section

noncomputable section

namespace Cert.Proof.LastRow

open Idealize.ShloMosaic
open Idealize.ShloMosaic.ValueIdx (ix1 ix2 ix3 eq_ix1 eq_ix2)
open Cert.ReferenceIdeal Cert.ReferenceIdeal.Gen

/-! ## The sum along a row -/

/-- Folding word addition over a set is the sum over the set. -/
theorem fold_words {ι : Type} (s : Finset ι) (f : ι → BitVec 32) : s.fold IntOp.addi 0#32 f = ∑ i ∈ s, f i := by
  classical
  induction s using Finset.cons_induction with
  | empty => rfl
  | cons a s ha ih => rw [Finset.fold_cons, Finset.sum_cons, ih]; rfl

/-- Summing the mask's words along its rows gives, for row `r`, the sum over the row's places. -/
theorem row_sum (w : IVec S16x4096 32) (r : Fin 16) :
    Host.reduce IntOp.addi w (constantI S_ 32 0#32) reducesTo_S16x4096_S16_d1 h_S_ (ix1 r) = ∑ n : Fin 4096, w (ix2 r n) := by
  classical
  have hred : S16x4096.Reduces [1] S16 := by decide
  rw [Host.reduce_eq_fold_single IntOp.addi w _ reducesTo_S16x4096_S16_d1 hred h_S_ (ix1 r)]
  refine (fold_words _ _).trans (Finset.sum_congr rfl fun n _ => congrArg w ?_)
  funext a
  match a with
  | ⟨0, _⟩ => rfl
  | ⟨1, _⟩ => rfl

/-! ## The index arithmetic -/

/-- A row number, with sixteen added if it were negative, is that row number. -/
theorem row_word (r : Fin 16) : (Scalar.select (IntOp.cmpi .slt (BitVec.ofNat 32 r.val) 0#32) (IntOp.addi (BitVec.ofNat 32 r.val) 16#32) (BitVec.ofNat 32 r.val)).toInt.toNat = r.val := by
  revert r; decide

/-- A count of at most 4096 less one, with 4096 added if it is negative, is the place the count points at. -/
theorem place_word (w : BitVec 32) (hw : w.toNat ≤ 4096) :
    (Scalar.select (IntOp.cmpi .slt (IntOp.subi w 1#32) 0#32) (IntOp.addi (IntOp.subi w 1#32) 4096#32) (IntOp.subi w 1#32)).toInt.toNat = (lastIdx w).val := by
  by_cases h0 : w.toNat = 0
  · have : w = 0#32 := BitVec.eq_of_toNat_eq h0
    subst this; decide
  · have hs : (IntOp.subi w 1#32).toNat = w.toNat - 1 := by
      show (w - 1#32).toNat = _
      rw [BitVec.toNat_sub]; show (2 ^ 32 - 1 + w.toNat) % 2 ^ 32 = _; omega
    have hi : (IntOp.subi w 1#32).toInt = ((w.toNat - 1 : ℕ) : Int) := by
      rw [BitVec.toInt_eq_toNat_of_lt (by omega), hs]
    have hc : IntOp.cmpi .slt (IntOp.subi w 1#32) 0#32 = 0#1 := by
      unfold IntOp.cmpi
      rw [show (BitVec.slt (IntOp.subi w 1#32) 0#32) = false by
        unfold BitVec.slt; rw [hi]; exact decide_eq_false (by show ¬ (((w.toNat - 1 : ℕ) : Int) < 0); omega)]
      rfl
    rw [hc]
    show (IntOp.subi w 1#32).toInt.toNat = _
    rw [hi]
    unfold lastIdx
    rw [if_neg h0]
    show ((w.toNat - 1 : ℕ) : Int).toNat = (w.toNat - 1) % 4096
    omega

/-! ## The gather -/

/-- The reference's gather takes, for row `r` of the result, the input's row named by the two words of row `r` of the start
    indices, where those are in range. -/
theorem gather_read {α : Type} (x : S16x4096x1024.Idx → α) (idx : IVec S16x2 32) (r : Fin 16) (q : Fin 1024) (a : Fin 16) (b : Fin 4096)
    (ha : (idx (ix2 r (0 : Fin 2))).toInt.toNat = a.val) (hb : (idx (ix2 r (1 : Fin 2))).toInt.toNat = b.val) :
    Host.gather gather_S16x4096x1024_S16x2_S16x1024_1_01_n_n_01_1_111024 x idx (ix2 r q) = x (ix3 a b q) := by
  unfold Host.gather
  refine congrArg x (funext fun c => Fin.ext ?_)
  generalize hd : gather_S16x4096x1024_S16x2_S16x1024_1_01_n_n_01_1_111024 = d
  have hob : ∀ c, c ∉ d.operandBatchingDims := fun c => by rw [← hd]; exact List.not_mem_nil
  have hcol : d.collapsedSliceDims = [0, 1] := by rw [← hd]; rfl
  have hsim : d.startIndexMap = [0, 1] := by rw [← hd]; rfl
  show d.start (ix2 r q) idx c + d.batchCoord (ix2 r q) c + d.offCoord (ix2 r q) c = _
  rw [d.batchCoord_eq_zero _ _ (hob c), Nat.add_zero]
  match c with
  | ⟨0, _⟩ =>
    rw [d.offCoord_eq_zero _ _ fun h => ((d.mem_sKept _).1 h).1 (by rw [hcol]; exact List.mem_cons_self), Nat.add_zero]
    have hm : (0 : Fin 3) ∈ d.startIndexMap := by rw [hsim]; decide
    have hsi : d.siIdx (ix2 r q) ⟨d.startIndexMap.idxOf (0 : Fin 3), List.idxOf_lt_length_iff.2 hm⟩ = ix2 r (0 : Fin 2) := by
      subst hd; funext e; match e with | ⟨0, _⟩ => rfl | ⟨1, _⟩ => rfl
    have hst : d.start (ix2 r q) idx (0 : Fin 3) = min (idx (ix2 r (0 : Fin 2))).toInt.toNat (16 - 1) := by
      unfold GatherDims.start; rw [dif_pos hm, hsi]; subst hd; rfl
    refine hst.trans ?_
    rw [ha]; show min a.val 15 = a.val; omega
  | ⟨1, _⟩ =>
    rw [d.offCoord_eq_zero _ _ fun h => ((d.mem_sKept _).1 h).1 (by rw [hcol]; exact List.mem_cons_of_mem _ List.mem_cons_self), Nat.add_zero]
    have hm : (1 : Fin 3) ∈ d.startIndexMap := by rw [hsim]; decide
    have hsi : d.siIdx (ix2 r q) ⟨d.startIndexMap.idxOf (1 : Fin 3), List.idxOf_lt_length_iff.2 hm⟩ = ix2 r (1 : Fin 2) := by
      subst hd; funext e; match e with | ⟨0, _⟩ => rfl | ⟨1, _⟩ => rfl
    have hst : d.start (ix2 r q) idx (1 : Fin 3) = min (idx (ix2 r (1 : Fin 2))).toInt.toNat (4096 - 1) := by
      unfold GatherDims.start; rw [dif_pos hm, hsi]; subst hd; rfl
    refine hst.trans ?_
    rw [hb]; show min b.val 4095 = b.val; omega
  | ⟨2, _⟩ =>
    have hm : (2 : Fin 3) ∉ d.startIndexMap := by rw [hsim]; decide
    have hst : d.start (ix2 r q) idx (2 : Fin 3) = 0 := by unfold GatherDims.start; rw [dif_neg hm]
    have hof : d.offCoord (ix2 r q) (2 : Fin 3) = q.val := by subst hd; rfl
    show d.start (ix2 r q) idx (2 : Fin 3) + d.offCoord (ix2 r q) (2 : Fin 3) = q.val
    rw [hst, hof, Nat.zero_add]

/-! ## The reference's result -/

/-- Each row's number of ones less one. -/
def lessOne (b : IVec S16x4096 1) : IVec S16 32 :=
  subi (Host.reduce IntOp.addi (extui 32 b natLt_1_32) (constantI S_ 32 0#32) reducesTo_S16x4096_S16_d1 h_S_) (broadcastInDim S16 ![] bcast_S_S16 (constantI S_ 32 1#32))

/-- The row numbers, and the places within the rows, as the reference writes them. -/
def rowNums : IVec S16 32 :=
  select (cmpi .slt (iotaInDim S16 32 0) (broadcastInDim S16 ![] bcast_S_S16 (constantI S_ 32 0#32))) (addi (iotaInDim S16 32 0) (broadcastInDim S16 ![] bcast_S_S16 (constantI S_ 32 16#32))) (iotaInDim S16 32 0)
def placeNums (c : IVec S16 32) : IVec S16 32 :=
  select (cmpi .slt c (broadcastInDim S16 ![] bcast_S_S16 (constantI S_ 32 0#32))) (addi c (broadcastInDim S16 ![] bcast_S_S16 (constantI S_ 32 4096#32))) c

/-- The start indices: row numbers beside places. -/
def starts (b : IVec S16x4096 1) : IVec S16x2 32 :=
  concatenate S16x2 1 [⟨S16x1, broadcastInDim S16x1 ![0] bcast_S16_S16x1_0 rowNums⟩, ⟨S16x1, broadcastInDim S16x1 ![0] bcast_S16_S16x1_0 (placeNums (lessOne b))⟩] concatenates_S16x1_S16x1_S16x2_d1

/-- The reference's result from its two arguments. -/
def refOut {α : Type} (x : S16x4096x1024.Idx → α) (b : IVec S16x4096 1) : S16x1024.Idx → α :=
  Host.gather gather_S16x4096x1024_S16x2_S16x1024_1_01_n_n_01_1_111024 x (starts b)

/-- A column made from a vector reads the vector. -/
theorem col_read (v : IVec S16 32) (r : Fin 16) : broadcastInDim S16x1 ![0] bcast_S16_S16x1_0 v (ix2 r (0 : Fin 1)) = v (ix1 r) :=
  broadcastInDim_apply _ _ v _ (ix1 r) fun a => by match a with | ⟨0, _⟩ => rfl

/-- The first word of row `r` of the start indices is `r`. -/
theorem starts_row (b : IVec S16x4096 1) (r : Fin 16) : (starts b (ix2 r (0 : Fin 2))).toInt.toNat = r.val := by
  have e : starts b (ix2 r (0 : Fin 2)) = rowNums (ix1 r) := by
    refine (concatenate_pair_apply_left (s₁ := S16x1) (s₂ := S16x1) (t := S16x2) 1 _ _ concatenates_S16x1_S16x1_S16x2_d1 _ rfl (ix2 r (0 : Fin 1)) fun a => ?_).trans (col_read _ r)
    match a with | ⟨0, _⟩ => rfl | ⟨1, _⟩ => rfl
  rw [e]; exact row_word r

/-- The sum of row `r` of the mask. -/
def ones (b : IVec S16x4096 1) (r : Fin 16) : BitVec 32 := ∑ n : Fin 4096, (b (ix2 r n)).setWidth 32

/-- The second word of row `r` of the start indices is the place the row's number of ones points at. -/
theorem starts_place (b : IVec S16x4096 1) (r : Fin 16) (h : (ones b r).toNat ≤ 4096) : (starts b (ix2 r (1 : Fin 2))).toInt.toNat = (lastIdx (ones b r)).val := by
  have e : starts b (ix2 r (1 : Fin 2)) = placeNums (lessOne b) (ix1 r) := by
    refine (concatenate_pair_apply_right (s₁ := S16x1) (s₂ := S16x1) (t := S16x2) 1 _ _ concatenates_S16x1_S16x1_S16x2_d1 _ rfl rfl (ix2 r (0 : Fin 1)) (fun a ha => ?_) rfl).trans (col_read _ r)
    match a with | ⟨0, _⟩ => rfl | ⟨1, _⟩ => exact absurd rfl ha
  have e1 : lessOne b (ix1 r) = IntOp.subi (ones b r) 1#32 := congrArg (IntOp.subi · 1#32) (row_sum _ r)
  rw [e]
  show (Scalar.select (IntOp.cmpi .slt (lessOne b (ix1 r)) 0#32) (IntOp.addi (lessOne b (ix1 r)) 4096#32) (lessOne b (ix1 r))).toInt.toNat = _
  rw [e1]; exact place_word _ h

/-! ## The two values agree -/

/-- The mask's words in one line add up, row by row, to the rows' numbers of ones. -/
theorem total_flat (b : IVec S16x4096 1) (h : S16x4096.ShapeCasts Cert.KernelIdeal.S65536) (hw : 1 < 32) (r : Fin 16) :
    total (shapeCast Cert.KernelIdeal.S65536 (extui 32 b hw) h) r = ones b r := by
  refine Finset.sum_congr rfl fun n _ => ?_
  refine shapeCast_apply _ h _ (ix2 r n) ?_
  rw [Shape.rowMajor_val_one, Shape.rowMajor_val_two]
  show r.val * 4096 + n.val = 4096 * r.val + n.val
  omega

/-- Row `4096 r + k` of the input laid out as 65536 rows is row `k` of its slab `r`. -/
theorem rows_flat {α : Type} (x : S16x4096x1024.Idx → α) (h : S16x4096x1024.ShapeCasts Cert.KernelIdeal.S65536x1024) (r : Fin 16) (k : Fin 4096) (q : Fin 1024)
    (hk : 4096 * r.val + k.val < 65536) : shapeCast Cert.KernelIdeal.S65536x1024 x h (ix2 ⟨4096 * r.val + k.val, hk⟩ q) = x (ix3 r k q) := by
  refine shapeCast_apply x h _ (ix3 r k q) ?_
  rw [Shape.rowMajor_val_two, Shape.rowMajor_val_three]
  show (r.val * 4096 + k.val) * 1024 + q.val = (4096 * r.val + k.val) * 1024 + q.val
  omega

/-- The kernel's value is the reference's. -/
theorem picked_eq_refOut {α : Type} (x : S16x4096x1024.Idx → α) (b : IVec S16x4096 1)
    (h₁ : S16x4096.ShapeCasts Cert.KernelIdeal.S65536) (hw : 1 < 32) (h₂ : S16x4096x1024.ShapeCasts Cert.KernelIdeal.S65536x1024)
    (hM : IsBits (shapeCast Cert.KernelIdeal.S65536 (extui 32 b hw) h₁)) :
    picked (shapeCast Cert.KernelIdeal.S65536 (extui 32 b hw) h₁) (shapeCast Cert.KernelIdeal.S65536x1024 x h₂) = refOut x b := by
  funext y
  rw [eq_ix2 y]
  have ht := total_flat b h₁ hw (y 0)
  have hle : (ones b (y 0)).toNat ≤ 4096 := ht ▸ total_le hM (y 0)
  refine Eq.trans ?_ (gather_read x (starts b) (y 0) (y 1) (y 0) (lastIdx (ones b (y 0))) (starts_row b (y 0)) (starts_place b (y 0) hle)).symm
  rw [← ht]
  exact rows_flat x h₂ (y 0) _ (y 1) _

end Cert.Proof.LastRow

end
-- ==== Proof.lean ====
/-
  The certificate's claims. The kernel's run is proved once, over any float values (Proof/Run.lean), and read here at the bits
  and at the ideal numbers; the references' runs are read off their operations, and the two results are one value
  (Proof/RefValue.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Run
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem
open Cert.Proof.LastRow

/-! ## The frames -/

/-- The kernel on bits: its run, read at the two arguments and at the counters. -/
theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

/-- The kernel on ideal numbers: the same run. -/
theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference on ideal numbers: its operations write neither argument, and it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference on bits: the same. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-! ## The values -/

/-- What the kernel leaves as its result is the reference's value of the kernel's arguments. -/
theorem result_eq {F : FTy → Type} [FloatOps F] (m : (ℓ : Loc Cert.KernelIdeal.nD Cert.KernelIdeal.τ Cert.KernelIdeal.sig) → Buf (Elt F) ℓ)
    (c : Dev Cert.KernelIdeal.nD) : Gof m c = refOut (m (xLoc c)) (m (bLoc c)) :=
  picked_eq_refOut _ _ _ _ _ (Mof_isBits m c)

/-- On ideal numbers, from equal arguments, kernel and reference leave equal results. -/
theorem equal_ideal : Cert.algebraic_KernelIdeal_ReferenceIdeal := by
  intro m ρ m' ρ' _ hargs
  refine ⟨fun c => Gof m c, ?_, ?_⟩
  · exact (θ_run Cert.KernelIdeal.defs _ _).mono (fun _ h c => ⟨(h.1 c).2.2, (h.1 c).1, (h.1 c).2.1⟩) (run_main (F := Ideal) m ρ)
  · refine (θ_run Cert.ReferenceIdeal.defs _ _).mono (fun _ h c => ⟨?_, (h c).2⟩) (Cert.ReferenceIdeal.Value.run (F := Ideal) m' ρ')
    refine ((h c).1.trans ?_).trans (result_eq m c).symm
    rw [(hargs c).1, (hargs c).2]
    rfl

/-- On bits, from equal arguments, kernel and reference leave equal results. -/
theorem equal_bits : Cert.bitexact_Kernel_Reference := by
  intro m ρ m' ρ' _ hargs
  refine ⟨fun c => Gof (F := Bits) m c, ?_, ?_⟩
  · exact (θ_run Cert.KernelIdeal.defs _ _).mono (fun _ h c => ⟨(h.1 c).2.2, (h.1 c).1, (h.1 c).2.1⟩) (run_main (F := Bits) m ρ)
  · refine (θ_run Cert.Reference.defs _ _).mono (fun _ h c => ⟨?_, (h c).2⟩) (Cert.Reference.Value.run (F := Bits) m' ρ')
    refine ((h c).1.trans ?_).trans (result_eq (F := Bits) m c).symm
    rw [(hargs c).1, (hargs c).2]
    rfl

/-- The certificate's claim. -/
theorem claim : Cert.Claim := ⟨Cert.Kernel.Gen.facts, Cert.KernelIdeal.Gen.facts, Cert.ReferenceIdeal.Gen.facts, Cert.Reference.Gen.facts,
  frame_kernel, frame_kernelIdeal, frame_referenceIdeal, frame_reference, trivial, equal_ideal, equal_bits⟩

end Cert.Proof

end
